-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x8 : Shape := ⟨2, ![1024, 8]⟩
abbrev S8x1024x512 : Shape := ⟨3, ![8, 1024, 512]⟩
abbrev S8x512x1024 : Shape := ⟨3, ![8, 512, 1024]⟩
abbrev S1x1024x512 : Shape := ⟨3, ![1, 1024, 512]⟩
abbrev S1x512x1024 : Shape := ⟨3, ![1, 512, 1024]⟩
abbrev S2048x8 : Shape := ⟨2, ![2048, 8]⟩
abbrev S2048 : Shape := ⟨1, ![2048]⟩
abbrev S2048x1 : Shape := ⟨2, ![2048, 1]⟩
abbrev S1024x512 : Shape := ⟨2, ![1024, 512]⟩
abbrev S2048x512 : Shape := ⟨2, ![2048, 512]⟩
abbrev S512x1024 : Shape := ⟨2, ![512, 1024]⟩
abbrev S1x8 : Shape := ⟨2, ![1, 8]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8x1024x512, .f32⟩
  | .hbm, ⟨3, _⟩ => ⟨S8x1024x512, .f32⟩
  | .hbm, ⟨4, _⟩ => ⟨S8x512x1024, .f32⟩
  | .hbm, ⟨5, _⟩ => ⟨S2048x1024, .bf16⟩
  | .hbm, ⟨6, _⟩ => ⟨S8x1024x512, .bf16⟩
  | .hbm, ⟨7, _⟩ => ⟨S8x1024x512, .bf16⟩
  | .hbm, ⟨8, _⟩ => ⟨S8x512x1024, .bf16⟩
  | .hbm, ⟨9, _⟩ => ⟨S2048x1024, .f32⟩
  | .local _ .vmem, ⟨0, _⟩ => ⟨S2048x1024, .f32⟩
  | .local _ .vmem, ⟨1, _⟩ => ⟨S2048x1024, .bf16⟩
  | .local _ .vmem, ⟨2, _⟩ => ⟨S1024x8, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S2048x1024, .f32⟩
  | .local _ .vmem, ⟨10, _⟩ => ⟨S2048x8, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x1024 : Shape := ⟨2, ![2048, 1024]⟩
abbrev S1024x8 : Shape := ⟨2, ![1024, 8]⟩
abbrev S8x1024x512 : Shape := ⟨3, ![8, 1024, 512]⟩
abbrev S8x512x1024 : Shape := ⟨3, ![8, 512, 1024]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S2048x2x2 : Shape := ⟨3, ![2048, 2, 2]⟩
abbrev S8x512x2048 : Shape := ⟨3, ![8, 512, 2048]⟩
abbrev S8x2048x512 : Shape := ⟨3, ![8, 2048, 512]⟩
abbrev S8x2048x1024 : Shape := ⟨3, ![8, 2048, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8x1024x512, .f32⟩
  | .hbm, ⟨3, _⟩ => ⟨S8x1024x512, .f32⟩
  | .hbm, ⟨4, _⟩ => ⟨S8x512x1024, .f32⟩
  | .hbm, ⟨5, _⟩ => ⟨S2048x8, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S2048x8, .f32⟩
  | .hbm, ⟨13, _⟩ => ⟨S2048x8, .f32⟩
  | .hbm, ⟨14, _⟩ => ⟨S2048x8, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x8, .f32⟩
  | .hbm, ⟨19, _⟩ => ⟨S2048x8, .f32⟩
  | .hbm, ⟨20, _⟩ => ⟨S2048x2, .f32⟩
  | .hbm, ⟨21, _⟩ => ⟨S2048x2, .i32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x2, .f32⟩
  | .hbm, ⟨29, _⟩ => ⟨S2048x2, .f32⟩
  | .hbm, ⟨30, _⟩ => ⟨S_, .f32⟩
  | .hbm, ⟨31, _⟩ => ⟨S2048x8, .f32⟩
  | .hbm, ⟨32, _⟩ => ⟨S2048, .i32⟩
  | .hbm, ⟨33, _⟩ => ⟨S2048x1, .i32⟩
  | .hbm, ⟨34, _⟩ => ⟨S_, .i32⟩
  | .hbm, ⟨35, _⟩ => ⟨S2048x1, .i32⟩
  | .hbm, ⟨36, _⟩ => ⟨S2048x1, .i1⟩
  | .hbm, ⟨37, _⟩ => ⟨S_, .i32⟩
  | .hbm, ⟨38, _⟩ => ⟨S2048x1, .i32⟩
  | .hbm, ⟨39, _⟩ => ⟨S2048x1, .i32⟩
  | .hbm, ⟨40, _⟩ => ⟨S2048x1, .i32⟩
  | .hbm, ⟨41, _⟩ => ⟨S_, .i32⟩
  | .hbm, ⟨42, _⟩ => ⟨S2048x2, .i32⟩
  | .hbm, ⟨43, _⟩ => ⟨S2048x2, .i1⟩
  | .hbm, ⟨44, _⟩ => ⟨S_, .i32⟩
  | .hbm, ⟨45, _⟩ => ⟨S2048x2, .i32⟩
  | .hbm, ⟨46, _⟩ => ⟨S2048x2, .i32⟩
  | .hbm, ⟨47, _⟩ => ⟨S2048x2, .i32⟩
  | .hbm, ⟨48, _⟩ => ⟨S2048x2, .i32⟩
  | .hbm, ⟨49, _⟩ => ⟨S2048x2x1, .i32⟩
  | .hbm, ⟨50, _⟩ => ⟨S2048x2x1, .i32⟩
  | .hbm, ⟨51, _⟩ => ⟨S2048x2x2, .i32⟩
  | .hbm, ⟨52, _⟩ => ⟨S2048x8, .f32⟩
  | .hbm, ⟨53, _⟩ => ⟨S8x512x2048, .f32⟩
  | .hbm, ⟨54, _⟩ => ⟨S8x2048x512, .f32⟩
  | .hbm, ⟨55, _⟩ => ⟨S8x512x2048, .f32⟩
  | .hbm, ⟨56, _⟩ => ⟨S8x2048x512, .f32⟩
  | .hbm, ⟨57, _⟩ => ⟨S8x2048x512, .f32⟩
  | .hbm, ⟨58, _⟩ => ⟨S8x2048x512, .f32⟩
  | .hbm, ⟨59, _⟩ => ⟨S_, .f32⟩
  | .hbm, ⟨60, _⟩ => ⟨S8x2048x512, .f32⟩
  | .hbm, ⟨61, _⟩ => ⟨S8x2048x512, .f32⟩
  | .hbm, ⟨62, _⟩ => ⟨S_, .f32⟩
  | .hbm, ⟨63, _⟩ => ⟨S8x2048x512, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S8x2048x1024, .f32⟩
  | .hbm, ⟨68, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Proof.Top2.lean ====
/- The two greatest entries of a row of eight, found two ways: by the kernel's first-maximum search, repeated on the row
   with the first winner masked by minus infinity, and by a stable descending sort. Both give the same normalized weights. -/
module

public import Idealize.ShloMosaic.Lib.SortPrefix
public import Idealize.ShloMosaic.Lib.SortNet.Extract
public import Idealize.ShloMosaic.Lib.WordCmp
public import Idealize.ShloMosaic.Lib.IdealHost

@[expose] public section

noncomputable section

namespace Cert.MoE

open Idealize.ShloMosaic

/-- Position `i` holds the greatest entry of `f`, and no earlier position does. -/
def IsFirstMax (f : Fin 8 → EReal) (i : Fin 8) : Prop := (∀ k, f k ≤ f i) ∧ ∀ k, k < i → f k < f i

/-- Every row has a first greatest entry. -/
theorem exists_isFirstMax (f : Fin 8 → EReal) : ∃ i, IsFirstMax f i := by
  classical
  obtain ⟨a, -, ha⟩ := Finset.exists_max_image Finset.univ f Finset.univ_nonempty
  have hne : (Finset.univ.filter fun i => f i = f a).Nonempty := ⟨a, by simp⟩
  obtain ⟨i, hi, hmin⟩ := Finset.exists_min_image (Finset.univ.filter fun i => f i = f a) id hne
  have hia : f i = f a := (Finset.mem_filter.mp hi).2
  refine ⟨i, fun k => hia ▸ ha k (Finset.mem_univ k), fun k hk => ?_⟩
  refine lt_of_le_of_ne (hia ▸ ha k (Finset.mem_univ k)) fun e => ?_
  exact absurd (hmin k (Finset.mem_filter.mpr ⟨Finset.mem_univ k, e.trans hia⟩)) (not_le.mpr hk)

/-- The maximum of a row, folded from minus infinity, is the entry at its first maximum. -/
theorem fold_max_eq {f : Fin 8 → EReal} {i : Fin 8} (h : IsFirstMax f i) :
    (Finset.univ : Finset (Fin 8)).fold max ⊥ f = f i := by
  apply le_antisymm
  · exact Finset.fold_max_le _ |>.mpr ⟨bot_le, fun k _ => h.1 k⟩
  · exact (Finset.le_fold_max _).mpr (Or.inr ⟨i, Finset.mem_univ i, le_rfl⟩)

/-- The kernel's key of position `k`: the position where the entry is the maximum `M`, eight elsewhere. -/
def key (f : Fin 8 → EReal) (M : EReal) (k : Fin 8) : BitVec 32 :=
  Scalar.select (Ideal.cmp .oeq (f k) M) (BitVec.ofNat 32 k.val) 8#32

/-- A key is the position's word or eight, by whether the entry is the maximum. -/
theorem key_eq (f : Fin 8 → EReal) (M : EReal) (k : Fin 8) :
    key f M k = if f k = M then BitVec.ofNat 32 k.val else 8#32 := by
  unfold key Ideal.cmp
  rw [WordCmp.select_ofBool]
  simp

/-- The least key, read signed, is the first maximum's position. -/
theorem fold_min_key {f : Fin 8 → EReal} {i : Fin 8} (h : IsFirstMax f i) :
    (Finset.univ : Finset (Fin 8)).fold IKind.minsi.op 2147483647#32 (key f (f i)) = BitVec.ofNat 32 i.val := by
  have hpos : ∀ k : Fin 8, (BitVec.ofNat 32 k.val).toInt = (k.val : Int) := fun k =>
    WordCmp.toInt_ofNat_of_lt (by have := k.isLt; omega)
  have hle : ∀ c : BitVec 32, c.toInt ≤ ((Finset.univ : Finset (Fin 8)).fold IKind.minsi.op 2147483647#32 (key f (f i))).toInt
      ↔ c.toInt ≤ (2147483647#32 : BitVec 32).toInt ∧ ∀ k ∈ (Finset.univ : Finset (Fin 8)), c.toInt ≤ (key f (f i) k).toInt := by
    intro c
    refine Finset.fold_op_rel_iff_and (r := fun x y : BitVec 32 => x.toInt ≤ y.toInt) fun {x y z} => ?_
    show x.toInt ≤ (IntOp.minsi y z).toInt ↔ _
    rw [SortNet.toInt_minsi, le_min_iff]
  apply BitVec.eq_of_toInt_eq
  apply le_antisymm
  · have := ((hle _).mp le_rfl).2 i (Finset.mem_univ i)
    rwa [key_eq, if_pos rfl] at this
  · rw [hle, hpos]
    refine ⟨by have := i.isLt; show (i.val : Int) ≤ 2147483647; omega, fun k _ => ?_⟩
    rw [key_eq]
    split
    · rename_i e
      rw [hpos]
      by_contra hlt
      exact absurd (h.2 k (by rw [Fin.lt_def]; omega)) (by rw [e]; exact lt_irrefl _)
    · have := i.isLt
      show (i.val : Int) ≤ 8
      omega

/-- A lane's bit "this lane is the one with the least key" is whether the lane is the first maximum. -/
theorem oneHot_eq {f : Fin 8 → EReal} {i : Fin 8} (h : IsFirstMax f i) (j : Fin 8) :
    IntOp.cmpi .eq (BitVec.ofNat 32 j.val)
      ((Finset.univ : Finset (Fin 8)).fold IKind.minsi.op 2147483647#32 (key f ((Finset.univ : Finset (Fin 8)).fold max ⊥ f)))
      = BitVec.ofBool (decide (j = i)) := by
  rw [fold_max_eq h, fold_min_key h, WordCmp.cmpi_eq_ofNat (by have := j.isLt; omega) (by have := i.isLt; omega)]
  congr 1
  exact decide_eq_decide.mpr Fin.ext_iff.symm

/-- The row with position `i` masked by minus infinity. -/
def masked (p : Fin 8 → EReal) (i : Fin 8) (k : Fin 8) : EReal := if k = i then ⊥ else p k

/-- The order of the reference's sort: a strictly greater entry goes first. -/
def before (p : Fin 8 → EReal) (k k' : Fin 8) : Bool := decide (p k' < p k)

/-- On a row of nonnegative entries the second maximum, found on the masked row, is another position. -/
theorem second_ne {p : Fin 8 → EReal} (hp : ∀ k, 0 ≤ p k) {i₁ i₂ : Fin 8} (h₂ : IsFirstMax (masked p i₁) i₂) : i₂ ≠ i₁ := by
  rintro rfl
  obtain ⟨k, hk⟩ : ∃ k : Fin 8, k ≠ i₂ := exists_ne i₂
  have := h₂.1 k
  rw [masked, if_neg hk, masked, if_pos rfl] at this
  exact absurd ((hp k).trans this) (by simp)

/-- The stable descending sort of a row of nonnegative entries begins with the two positions the first-maximum search finds. -/
theorem sortedFrom_eq {p : Fin 8 → EReal} (hp : ∀ k, 0 ≤ p k) {i₁ i₂ : Fin 8} (h₁ : IsFirstMax p i₁)
    (h₂ : IsFirstMax (masked p i₁) i₂) : sortedFrom (before p) 0 = i₁ ∧ sortedFrom (before p) 1 = i₂ := by
  classical
  have hne := second_ne hp h₂
  -- the same order with ties broken by the position: a strict total order, and the stable sort cannot tell them apart
  let B : Fin 8 → Fin 8 → Bool := fun k k' => decide (p k' < p k) || (decide (p k = p k') && decide (k < k'))
  have hB : StrictTotalBefore B :=
    StrictTotalBefore.of_key_then_position (fun a b => decide (b < a)) p (by simp)
      (fun a b c hab hbc => by simp only [decide_eq_true_eq] at *; exact hbc.trans hab)
      (fun a b => by simp only [decide_eq_true_eq]; rcases lt_trichotomy a b with h | h | h <;> simp [h])
  have e2 : masked p i₁ i₂ = p i₂ := by rw [masked, if_neg hne]
  have hm : ∀ k, k ≠ i₁ → masked p i₁ k = p k := fun k hk => by rw [masked, if_neg hk]
  have hBS : sortedFrom (before p) = sortedFrom B := by
    unfold sortedFrom
    have hl : sortPositions 8 (before p) = sortPositions 8 B := by
      unfold sortPositions
      have key : ∀ l : List (Fin 8), l.Pairwise (· < ·) → stableSort (before p) l = stableSort B l := by
        intro l
        induction l with
        | nil => intro _; rfl
        | cons a l ih =>
          intro hl
          rw [List.pairwise_cons] at hl
          unfold stableSort
          rw [ih hl.2]
          refine insertBefore_congr _ _ a _ fun b hb => ?_
          have hab : a < b := hl.1 b ((perm_stableSort B l).mem_iff.mp hb)
          show decide (p a < p b) = (decide (p a < p b) || (decide (p b = p a) && decide (b < a)))
          rw [decide_eq_false (not_lt.mpr hab.le), Bool.and_false, Bool.or_false]
      exact key _ (List.pairwise_lt_finRange 8)
    funext k
    rw [List.get_of_eq hl]
    rfl
  let σ : Fin 2 → Fin 8 := ![i₁, i₂]
  have hpre := hB.sortedFrom_eq_of_prefix (k := 2) (by decide) σ
    (by
      intro a b hab
      fin_cases a <;> fin_cases b
      · rfl
      · exact absurd hab.symm hne
      · exact absurd hab hne
      · rfl)
    (by
      intro a b hab
      have ha : a = 0 := by fin_cases a <;> fin_cases b <;> simp_all
      have hb : b = 1 := by fin_cases a <;> fin_cases b <;> simp_all
      subst ha hb
      show B i₂ i₁ = false
      simp only [B, Bool.or_eq_false_iff, Bool.and_eq_false_iff, decide_eq_false_iff_not]
      refine ⟨not_lt.mpr (h₁.1 i₂), ?_⟩
      by_cases e : p i₂ = p i₁
      · exact Or.inr fun hlt => absurd (h₁.2 i₂ hlt) (by rw [e]; exact lt_irrefl _)
      · exact Or.inl e)
    (by
      intro a k hk
      have hk1 : k ≠ i₁ := fun e => hk 0 e.symm
      have hk2 : k ≠ i₂ := fun e => hk 1 e.symm
      have hd : ∀ i : Fin 8, p k ≤ p i → (k < i → p k < p i) → B k i = false := by
        intro i hle hlt
        simp only [B, Bool.or_eq_false_iff, Bool.and_eq_false_iff, decide_eq_false_iff_not]
        refine ⟨not_lt.mpr hle, ?_⟩
        by_cases e : p k = p i
        · exact Or.inr fun h => absurd (hlt h) (by rw [e]; exact lt_irrefl _)
        · exact Or.inl e
      fin_cases a
      · exact hd i₁ (h₁.1 k) (h₁.2 k)
      · refine hd i₂ ?_ fun h => ?_
        · have := h₂.1 k; rwa [hm k hk1, e2] at this
        · have := h₂.2 k h; rwa [hm k hk1, e2] at this)
  rw [hBS]
  exact ⟨hpre 0, hpre 1⟩

/-- The kernel's weight of lane `j`: the row's entry on the two chosen lanes and zero elsewhere, over the two maxima's sum. -/
def kernelWeight (eps : EReal) (p : Fin 8 → EReal) (i₁ i₂ j : Fin 8) : EReal :=
  Ideal.div ((if j = i₁ then p j else 0) + (if j = i₂ then p j else 0)) (p i₁ + masked p i₁ i₂ + eps)

/-- The reference's weight of lane `j`: the sorted row's first two entries over their sum, put at the lanes they came from
    (the later one last), zero elsewhere. -/
def sortedWeight (eps : EReal) (p : Fin 8 → EReal) (j : Fin 8) : EReal :=
  if j = sortedFrom (before p) 1 then
    Ideal.div (p (sortedFrom (before p) 1)) (p (sortedFrom (before p) 0) + p (sortedFrom (before p) 1) + eps)
  else if j = sortedFrom (before p) 0 then
    Ideal.div (p (sortedFrom (before p) 0)) (p (sortedFrom (before p) 0) + p (sortedFrom (before p) 1) + eps)
  else 0

/-- Anything over minus infinity is zero. -/
theorem div_bot (x : EReal) : Ideal.div x ⊥ = 0 := by
  rw [Ideal.div, if_neg (by simp), EReal.inv_bot, mul_zero]

/-- The two weights are equal on a row whose entries are all nonnegative or all minus infinity. -/
theorem kernelWeight_eq_sortedWeight {eps : EReal} (he : 0 < eps) {p : Fin 8 → EReal} (hp : (∀ k, p k = ⊥) ∨ ∀ k, 0 ≤ p k)
    {i₁ i₂ : Fin 8} (h₁ : IsFirstMax p i₁) (h₂ : IsFirstMax (masked p i₁) i₂) (j : Fin 8) :
    kernelWeight eps p i₁ i₂ j = sortedWeight eps p j := by
  rcases hp with hp | hp
  · have hb : ∀ k, p k = ⊥ := hp
    unfold kernelWeight sortedWeight
    simp only [hb, EReal.bot_add, div_bot, ite_self]
  · obtain ⟨e0, e1⟩ := sortedFrom_eq hp h₁ h₂
    have hne := second_ne hp h₂
    have e2 : masked p i₁ i₂ = p i₂ := by rw [masked, if_neg hne]
    unfold kernelWeight sortedWeight
    rw [e0, e1, e2]
    by_cases j2 : j = i₂
    · subst j2
      rw [if_neg hne, if_pos rfl, if_pos rfl, zero_add]
    · by_cases j1 : j = i₁
      · subst j1
        rw [if_pos rfl, if_neg j2, if_neg j2, if_pos rfl, add_zero]
      · rw [if_neg j1, if_neg j2, if_neg j2, if_neg j1, add_zero]
        rw [Ideal.div, if_neg (ne_of_gt ?_), zero_mul]
        exact lt_of_lt_of_le he (le_add_of_nonneg_left (add_nonneg (hp i₁) (hp i₂)))

/-- A row of softmax, `e j / Σ e` of nonnegative `e`, has all entries nonnegative, or, where the sum vanishes, all minus infinity. -/
theorem softmax_dichotomy {e : Fin 8 → EReal} (he : ∀ k, 0 ≤ e k) :
    (∀ k, Ideal.div (e k) (∑ l, e l) = ⊥) ∨ ∀ k, 0 ≤ Ideal.div (e k) (∑ l, e l) := by
  by_cases hS : (∑ l, e l) = 0
  · left
    intro k
    have hk : e k = 0 := (Finset.sum_eq_zero_iff_of_nonneg fun l _ => he l).mp hS k (Finset.mem_univ k)
    rw [Ideal.div, if_pos hS, if_neg (by rw [hk]; exact lt_irrefl _)]
  · right
    intro k
    rw [Ideal.div, if_neg hS]
    exact mul_nonneg (he k) (EReal.inv_nonneg_of_nonneg (Finset.sum_nonneg fun l _ => he l))

/-- The exponential is nonnegative. -/
theorem exp_nonneg (x : EReal) : 0 ≤ Ideal.exp x := by
  induction x with
  | bot => exact le_rfl
  | top => exact le_top
  | coe r => exact EReal.coe_nonneg.mpr (Real.exp_pos r).le

/-- The word `0x1E3CE508` (about `1e-20`) denotes a positive number. -/
theorem eps_pos : (0 : EReal) < Ideal.ofBits .f32 0x1E3CE508#32 := by
  have hn : ((0x1E3CE508#32 : BitVec 32).extractLsb' 31 1 == 1#1) = false := by decide
  have hx : ((0x1E3CE508#32 : BitVec 32).extractLsb' 23 8).toNat = 60 := by decide
  show (0 : EReal) < Ideal.ieee 8 23 0x1E3CE508#32
  simp only [Ideal.ieee, Nat.reduceAdd, hn, hx]
  norm_num

end Cert.MoE

end
-- ==== Proof.Spec.lean ====
/- The mixture of experts over the extended reals, entry by entry: the router's softmax, one expert's output, their
   weighted sum. Both programs are read into these functions. -/
module

public import proofs.«01_k».proof.Proof.Top2
public import Idealize.ShloMosaic.Lib.Pointwise.Index

@[expose] public section

noncomputable section

namespace Cert.MoE

open Idealize.ShloMosaic

/-- The matrix `[2048, 1024]` of tokens (and of results), the gate `[1024, 8]`, and the experts' two kinds of weights. -/
abbrev Tokens := (⟨2, ![2048, 1024]⟩ : Shape).Idx → EReal
/-- The router's matrix: a column per expert. -/
abbrev Gate := (⟨2, ![1024, 8]⟩ : Shape).Idx → EReal
/-- An input projection: a matrix per expert. -/
abbrev WIn := (⟨3, ![8, 1024, 512]⟩ : Shape).Idx → EReal
/-- The output projection: a matrix per expert. -/
abbrev WOut := (⟨3, ![8, 512, 1024]⟩ : Shape).Idx → EReal

/-- Token `t`'s router logit for expert `j`. -/
def logit (x : Tokens) (g : Gate) (t : Fin 2048) (j : Fin 8) : EReal := ∑ k : Fin 1024, x (ix2 t k) * g (ix2 k j)

/-- The exponential of a logit less the row's greatest. -/
def expo (x : Tokens) (g : Gate) (t : Fin 2048) (j : Fin 8) : EReal :=
  Ideal.exp (logit x g t j - max ⊥ ((Finset.univ : Finset (Fin 8)).fold max ⊥ (logit x g t)))

/-- The router's softmax. -/
def prob (x : Tokens) (g : Gate) (t : Fin 2048) (j : Fin 8) : EReal := Ideal.div (expo x g t j) (∑ l : Fin 8, expo x g t l)

/-- A router row is nonnegative throughout, or minus infinity throughout. -/
theorem prob_dichotomy (x : Tokens) (g : Gate) (t : Fin 2048) : (∀ k, prob x g t k = ⊥) ∨ ∀ k, 0 ≤ prob x g t k :=
  softmax_dichotomy fun _ => exp_nonneg _

/-- Token `t`'s product with column `f` of expert `e`'s input weights. -/
def hid (x : Tokens) (w : WIn) (e : Fin 8) (t : Fin 2048) (f : Fin 512) : EReal := ∑ k : Fin 1024, x (ix2 t k) * w (ix3 e k f)

/-- The gated activation: `h · logistic h · u`. -/
def act (x : Tokens) (wg wu : WIn) (e : Fin 8) (t : Fin 2048) (f : Fin 512) : EReal :=
  hid x wg e t f * Ideal.logistic (hid x wg e t f) * hid x wu e t f

/-- Expert `e`'s output for token `t`. -/
def expert (x : Tokens) (wg wu : WIn) (wd : WOut) (e : Fin 8) (t : Fin 2048) (d : Fin 1024) : EReal :=
  ∑ f : Fin 512, act x wg wu e t f * wd (ix3 e f d)

/-- The router weight of expert `j` for token `t`: the two greatest probabilities over their sum, zero elsewhere. -/
def weight (x : Tokens) (g : Gate) (t : Fin 2048) (j : Fin 8) : EReal :=
  sortedWeight (Ideal.ofBits .f32 0x1E3CE508#32) (prob x g t) j

/-- The result: the weighted sum of the experts' outputs. -/
def moe (x : Tokens) (g : Gate) (wg wu : WIn) (wd : WOut) (t : Fin 2048) (d : Fin 1024) : EReal :=
  ∑ e : Fin 8, weight x g t e * expert x wg wu wd e t d

end Cert.MoE

end
-- ==== Proof.KernelBlock.lean ====
/- What the kernel's body computes at one grid point, read entry by entry: the router weights the first point writes, and
   the addend every point adds to the result. -/
module

public import proofs.«01_k».proof.Proof.Spec
public import proofs.«01_k».proof.Proof.Gen.KernelIdeal.Skeleton
public import Idealize.ShloMosaic.Lib.Pointwise

@[expose] public section

noncomputable section

namespace Cert.MoE

open Idealize.ShloMosaic Cert.KernelIdeal Cert.KernelIdeal.Gen

/-- The word `0xFF800000` denotes minus infinity. -/
theorem negInf : Ideal.ofBits .f32 0xFF800000#32 = ⊥ := by
  have hn : ((0xFF800000#32 : BitVec 32).extractLsb' 31 1 == 1#1) = true := by decide
  have hx : ((0xFF800000#32 : BitVec 32).extractLsb' 23 8).toNat = 255 := by decide
  have hf : ((0xFF800000#32 : BitVec 32).extractLsb' 0 23).toNat = 0 := by decide
  show Ideal.ieee 8 23 0xFF800000#32 = ⊥
  simp only [Ideal.ieee, Nat.reduceAdd, hn, hx, hf]
  norm_num

/-- The kernel's first router value is the softmax row. -/
theorem pay1_apply (x : Tokens) (g : Gate) (t : Fin 2048) (j : Fin 8) :
    k0_pay1 (F := Ideal) x g (ix2 t j) = prob x g t j := by
  pointwise [k0_pay1]
  rw [negInf]
  rfl

/-- The first one-hot marks the row's first greatest entry. -/
theorem pay2_apply (x : Tokens) (g : Gate) (t : Fin 2048) (j i : Fin 8) (h : IsFirstMax (prob x g t) i) :
    k0_pay2 (F := Ideal) x g (ix2 t j) = BitVec.ofBool (decide (j = i)) := by
  rw [← oneHot_eq h j]
  pointwise [k0_pay2]
  simp only [pay1_apply, negInf]
  refine congrArg (fun f => IntOp.cmpi .eq (BitVec.ofNat 32 j.val) (Finset.fold IKind.minsi.op 2147483647#32 f Finset.univ)) ?_
  funext k
  exact (key_eq _ _ k).symm

/-- The masked row: minus infinity at the first greatest entry. -/
theorem pay3_apply (x : Tokens) (g : Gate) (t : Fin 2048) (j i : Fin 8) (h : IsFirstMax (prob x g t) i) :
    k0_pay3 (F := Ideal) x g (ix2 t j) = masked (prob x g t) i j := by
  pointwise [k0_pay3]
  rw [pay2_apply x g t j i h, pay1_apply, negInf, WordCmp.select_decide]
  rfl

/-- The second one-hot marks the masked row's first greatest entry. -/
theorem pay4_apply (x : Tokens) (g : Gate) (t : Fin 2048) (j i i' : Fin 8) (h : IsFirstMax (prob x g t) i)
    (h' : IsFirstMax (masked (prob x g t) i) i') :
    k0_pay4 (F := Ideal) x g (ix2 t j) = BitVec.ofBool (decide (j = i')) := by
  rw [← oneHot_eq h' j]
  pointwise [k0_pay4]
  simp only [pay3_apply x g t _ i h, negInf]
  refine congrArg (fun f => IntOp.cmpi .eq (BitVec.ofNat 32 j.val) (Finset.fold IKind.minsi.op 2147483647#32 f Finset.univ)) ?_
  funext k
  exact (key_eq _ _ k).symm

/-- The sum of the two maxima. -/
theorem pay5_apply (x : Tokens) (g : Gate) (t : Fin 2048) (i i' : Fin 8) (h : IsFirstMax (prob x g t) i)
    (h' : IsFirstMax (masked (prob x g t) i) i') :
    k0_pay5 (F := Ideal) x g (ix2 t 0) = prob x g t i + masked (prob x g t) i i' := by
  pointwise [k0_pay5]
  simp only [pay1_apply, pay3_apply x g t _ i h, negInf]
  exact congrArg₂ (· + ·) (fold_max_eq h) (fold_max_eq h')

/-- What the first point writes into the scratch: the router weights. -/
def scratch (x : Tokens) (g : Gate) : FVec Ideal S2048x8 .f32 :=
  k0_pay6 (F := Ideal) (k0_pay1 (F := Ideal) x g) (k0_pay2 (F := Ideal) x g) (k0_pay4 (F := Ideal) x g) (k0_pay5 (F := Ideal) x g)

/-- The scratch holds the reference's router weights. -/
theorem scratch_apply (x : Tokens) (g : Gate) (t : Fin 2048) (j : Fin 8) : scratch x g (ix2 t j) = weight x g t j := by
  obtain ⟨i, h⟩ := exists_isFirstMax (prob x g t)
  obtain ⟨i', h'⟩ := exists_isFirstMax (masked (prob x g t) i)
  refine Eq.trans ?_ (kernelWeight_eq_sortedWeight eps_pos (prob_dichotomy x g t) h h' j)
  pointwise [scratch, k0_pay6]
  rw [pay1_apply, pay2_apply x g t j i h, pay4_apply x g t j i i' h h', pay5_apply x g t i i' h h', WordCmp.select_decide,
    WordCmp.select_decide]
  rfl

/-- One expert's addend: the scratch's column for expert `e` times the expert's output, the three weight blocks given alone. -/
theorem pay8_apply (i : grid0.Coords) (x : Tokens) (wg wu : WIn) (wd : WOut) (w : FVec Ideal S2048x8 .f32) (out : Tokens)
    (bg bu : FVec Ideal S1x1024x512 .bf16) (bd : FVec Ideal S1x512x1024 .bf16) (e : Fin 8) (hi : (i 0).val = e.val)
    (hg : ∀ k f, bg (ix3 0 k f) = wg (ix3 e k f)) (hu : ∀ k f, bu (ix3 0 k f) = wu (ix3 e k f))
    (hd : ∀ f d, bd (ix3 0 f d) = wd (ix3 e f d)) (t : Fin 2048) (d : Fin 1024) :
    k0_pay8 (F := Ideal) i x bg bu bd w out (ix2 t d) = out (ix2 t d) + w (ix2 t e) * expert x wg wu wd e t d := by
  pointwise [k0_pay8]
  simp only [hg, hu, hd, hi]
  refine congrArg (out (ix2 t d) + ·) (congrArg₂ (· * ·) ?_ rfl)
  rw [Finset.sum_eq_single e]
  · rw [WordCmp.cmpi_eq_ofNat (by have := e.isLt; omega) (by have := e.isLt; omega), WordCmp.select_decide, if_pos rfl]
  · intro k _ hk
    rw [WordCmp.cmpi_eq_ofNat (by have := k.isLt; omega) (by have := e.isLt; omega), WordCmp.select_decide,
      if_neg fun h => hk (Fin.ext h)]
  · exact fun h => absurd (Finset.mem_univ e) h

/-- The block of zeros the first point stores. -/
theorem pay7_apply (t : Fin 2048) (d : Fin 1024) : k0_pay7 (F := Ideal) (ix2 t d) = 0 := by
  pointwise [k0_pay7]

end Cert.MoE

end
-- ==== Proof.KernelValue.lean ====
/- What the kernel's grid leaves in its result: case by case what one point stores, then the fold over the eight experts. -/
module

public import proofs.«01_k».proof.Proof.KernelBlock
public import proofs.«01_k».proof.Proof.Gen.KernelIdeal.Value

@[expose] public section

noncomputable section

namespace Cert.MoE

open Idealize.ShloMosaic Idealize.ShloMosaic.TcCoe Cert.KernelIdeal Cert.KernelIdeal.Gen Cert.KernelIdeal.Value

/-- Zero offsets on two axes. -/
theorem hz : (![0, 0] : Fin 2 → Nat) = fun _ => 0 := funext fun a => by fin_cases a <;> rfl
/-- Zero offsets on three axes. -/
theorem hz3 : (![0, 0, 0] : Fin 3 → Nat) = fun _ => 0 := funext fun a => by fin_cases a <;> rfl

section cases
variable (c : Dev nD) (i : grid0.Coords)
  (arg1 : Memref sig .tc .vmem S2048x1024 .f32) (h1 : arg1.IsWhole) (arg2 : Memref sig .tc .vmem S2048x1024 .bf16) (h2 : arg2.IsWhole)
  (arg3 : Memref sig .tc .vmem S1024x8 .f32) (h3 : arg3.IsWhole) (arg4 : Memref sig .tc .vmem S1x1024x512 .bf16) (h4 : arg4.IsWhole)
  (arg5 : Memref sig .tc .vmem S1x1024x512 .bf16) (h5 : arg5.IsWhole) (arg6 : Memref sig .tc .vmem S1x512x1024 .bf16) (h6 : arg6.IsWhole)
  (arg7 : Memref sig .tc .vmem S2048x1024 .f32) (h7 : arg7.IsWhole) (arg8 : Memref sig .tc .vmem S2048x8 .f32) (h8 : arg8.IsWhole)
  (x0 : FVec Ideal S2048x1024 .f32) (x1 : FVec Ideal S2048x1024 .bf16) (x2 : FVec Ideal S1024x8 .f32)
  (x3 x4 : FVec Ideal S1x1024x512 .bf16) (x5 : FVec Ideal S1x512x1024 .bf16)

/-- The first point leaves the router weights in the scratch. -/
theorem soutA_eq (hc : cond0_0 i) :
    sout0_A_0 (F := Ideal) c i arg1 h1 arg2 h2 arg3 h3 arg4 h4 arg5 h5 arg6 h6 arg7 h7 arg8 h8 hc x0 x1 x2 x3 x4 x5 = scratch x0 x2 := by
  unfold sout0_A_0
  rw [View.read_writes_eq_canon _ _ _ (scover0_A_0 (F := Ideal) c i arg1 h1 arg2 h2 arg3 h3 arg4 h4 arg5 h5 arg6 h6 arg7 h7 arg8 h8 hc x0 x1 x2 x3 x4 x5)]
  unfold kernelRun0_A
  dsimp only
  sl_unfold_words
  rw [View.canon_unit_zero hz]
  simp only [View.readAt_eq_ld, h1.read_unread, h2.read_unread, h3.read_unread, View.ld_unit_zero (S := S2048x1024) hz,
    View.ld_unit_zero (S := S1024x8) hz]
  rfl

/-- The first point leaves the first expert's addend over zeros in the result's buffer. -/
theorem outA_eq (hc : cond0_0 i) :
    out0_A_6 (F := Ideal) c i arg1 h1 arg2 h2 arg3 h3 arg4 h4 arg5 h5 arg6 h6 arg7 h7 arg8 h8 hc x0 x1 x2 x3 x4 x5
      = k0_pay8 (F := Ideal) i x1 x3 x4 x5 (scratch x0 x2) (k0_pay7 (F := Ideal)) := by
  unfold out0_A_6
  rw [View.read_writes_eq_canon _ _ _ (cover0_A_6 (F := Ideal) c i arg1 h1 arg2 h2 arg3 h3 arg4 h4 arg5 h5 arg6 h6 arg7 h7 arg8 h8 hc x0 x1 x2 x3 x4 x5)]
  unfold kernelRun0_A
  dsimp only
  sl_unfold_words
  rw [View.canon_cons_unit_zero (S := S2048x1024) hz]
  simp only [View.readAt_eq_ld, h1.read_unread, h2.read_unread, h3.read_unread, h4.read_unread, h5.read_unread, h6.read_unread,
    View.ld_unit_zero (S := S2048x1024) hz, View.ld_unit_zero (S := S1024x8) hz, View.ld_unit_zero (S := S1x1024x512) hz3,
    View.ld_unit_zero (S := S1x512x1024) hz3, View.readCov_unit_zero (S := S2048x8) _ hz, View.readCov_unit_zero (S := S2048x1024) _ hz]
  rfl

/-- A later point adds its expert's addend to what the buffer holds. -/
theorem outB_eq (hc : ¬cond0_0 i) (o : FVec Ideal S2048x1024 .f32) (s : FVec Ideal S2048x8 .f32) :
    out0_B_6 (F := Ideal) c i arg1 h1 arg2 h2 arg3 h3 arg4 h4 arg5 h5 arg6 h6 arg7 h7 arg8 h8 hc x0 x1 x2 x3 x4 x5 o s
      = k0_pay8 (F := Ideal) i x1 x3 x4 x5 s o := by
  unfold out0_B_6
  rw [View.read_writes_eq_canon _ _ _ (cover0_B_6 (F := Ideal) c i arg1 h1 arg2 h2 arg3 h3 arg4 h4 arg5 h5 arg6 h6 arg7 h7 arg8 h8 hc x0 x1 x2 x3 x4 x5 o s)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S2048x8) hz,
    View.ld_unit_zero (S := S2048x1024) hz, View.ld_unit_zero (S := S1024x8) hz, View.ld_unit_zero (S := S1x1024x512) hz3,
    View.ld_unit_zero (S := S1x512x1024) hz3]

end cases

end Cert.MoE

end
-- ==== Proof.KernelGrid.lean ====
/- The kernel's input blocks as entries of the arguments, and the fold of its eight grid points as a sum over the experts. -/
module

public import proofs.«01_k».proof.Proof.KernelValue

@[expose] public section

noncomputable section

namespace Cert.MoE

open Idealize.ShloMosaic Idealize.ShloMosaic.TcCoe Cert.KernelIdeal Cert.KernelIdeal.Gen Cert.KernelIdeal.Value Idealize.SL.Sem

variable (m : (ℓ : Loc nD τ sig) → Buf (Elt Ideal) ℓ) (c : Dev nD)

/-- The tokens the kernel is called on. -/
abbrev argX : Tokens := m ((c : Thread nD τ).loc main_arg0)
/-- The router's matrix. -/
abbrev argG : Gate := m ((c : Thread nD τ).loc main_arg1)
/-- The experts' gate projections. -/
abbrev argWg : WIn := m ((c : Thread nD τ).loc main_arg2)
/-- The experts' up projections. -/
abbrev argWu : WIn := m ((c : Thread nD τ).loc main_arg3)
/-- The experts' down projections. -/
abbrev argWd : WOut := m ((c : Thread nD τ).loc main_arg4)

/-- Rounding the tokens to the narrow format changes nothing here. -/
theorem V_x : V m c main_call0_v0 = argX m c := by
  dsimp only [V, hostOps0]
  after_results
  rfl
/-- Rounding the gate projections changes nothing here. -/
theorem V_wg : V m c main_call0_v1 = argWg m c := by
  dsimp only [V, hostOps0]
  after_results
  rfl
/-- Rounding the up projections changes nothing here. -/
theorem V_wu : V m c main_call0_v2 = argWu m c := by
  dsimp only [V, hostOps0]
  after_results
  rfl
/-- Rounding the down projections changes nothing here. -/
theorem V_wd : V m c main_call0_v3 = argWd m c := by
  dsimp only [V, hostOps0]
  after_results
  rfl

/-- The one grid axis counts the experts. -/
theorem coords_val : ∀ t : Fin grid0.N, (grid0.coords t 0).val = t.val := by decide +kernel
/-- The token windows sit at the array's start. -/
theorem idx_x : ∀ t : Fin grid0.N, (∀ a, win0_0.index t a = 0) ∧ (∀ a, win0_1.index t a = 0) ∧ ∀ a, win0_2.index t a = 0 := by
  decide +kernel
/-- The weight windows sit at the point's expert. -/
theorem idx_w : ∀ t : Fin grid0.N, win0_3.index t = ![t.val, 0, 0] ∧ win0_4.index t = ![t.val, 0, 0] ∧ win0_5.index t = ![t.val, 0, 0] := by
  decide +kernel

/-- Every point's token block is all the tokens. -/
theorem iblk0 (t : Fin cfg0.N) : iblk m c 0 t = argX m c := by
  funext y
  show V m c main_arg0 (((cfg0.win 0).blk t).view.emb y) = _
  rw [V_main_arg0]
  refine congrArg (argX m c) (funext fun a => Fin.ext ?_)
  show win0_0.index t a * _ + 1 * (y a).val = (y a).val
  rw [(idx_x t).1 a]; omega

/-- Every point's rounded token block is all the tokens. -/
theorem iblk1 (t : Fin cfg0.N) : iblk m c 1 t = argX m c := by
  funext y
  show V m c main_call0_v0 (((cfg0.win 1).blk t).view.emb y) = _
  rw [V_x]
  refine congrArg (argX m c) (funext fun a => Fin.ext ?_)
  show win0_1.index t a * _ + 1 * (y a).val = (y a).val
  rw [(idx_x t).2.1 a]; omega

/-- Every point's router block is the whole matrix. -/
theorem iblk2 (t : Fin cfg0.N) : iblk m c 2 t = argG m c := by
  funext y
  show V m c main_arg1 (((cfg0.win 2).blk t).view.emb y) = _
  rw [V_main_arg1]
  refine congrArg (argG m c) (funext fun a => Fin.ext ?_)
  show win0_2.index t a * _ + 1 * (y a).val = (y a).val
  rw [(idx_x t).2.2 a]; omega

/-- Point `t`'s block of the gate projections is expert `t`'s matrix. -/
theorem iblk3 (t : Fin cfg0.N) (e : Fin 8) (h : t.val = e.val) (k : Fin 1024) (f : Fin 512) :
    (iblk m c 3 t : FVec Ideal S1x1024x512 .bf16) (ix3 0 k f) = argWg m c (ix3 e k f) := by
  show V m c main_call0_v1 (((cfg0.win 3).blk t).view.emb (ix3 0 k f)) = _
  rw [V_wg]
  refine congrArg (argWg m c) (funext fun a => Fin.ext ?_)
  show win0_3.index t a * S1x1024x512.size a + 1 * _ = _
  rw [(idx_w t).1]
  match a with
  | ⟨0, _⟩ => show t.val * 1 + 1 * 0 = e.val; omega
  | ⟨1, _⟩ => show 0 * 1024 + 1 * k.val = k.val; omega
  | ⟨2, _⟩ => show 0 * 512 + 1 * f.val = f.val; omega

/-- Point `t`'s block of the up projections is expert `t`'s matrix. -/
theorem iblk4 (t : Fin cfg0.N) (e : Fin 8) (h : t.val = e.val) (k : Fin 1024) (f : Fin 512) :
    (iblk m c 4 t : FVec Ideal S1x1024x512 .bf16) (ix3 0 k f) = argWu m c (ix3 e k f) := by
  show V m c main_call0_v2 (((cfg0.win 4).blk t).view.emb (ix3 0 k f)) = _
  rw [V_wu]
  refine congrArg (argWu m c) (funext fun a => Fin.ext ?_)
  show win0_4.index t a * S1x1024x512.size a + 1 * _ = _
  rw [(idx_w t).2.1]
  match a with
  | ⟨0, _⟩ => show t.val * 1 + 1 * 0 = e.val; omega
  | ⟨1, _⟩ => show 0 * 1024 + 1 * k.val = k.val; omega
  | ⟨2, _⟩ => show 0 * 512 + 1 * f.val = f.val; omega

/-- Point `t`'s block of the down projections is expert `t`'s matrix. -/
theorem iblk5 (t : Fin cfg0.N) (e : Fin 8) (h : t.val = e.val) (f : Fin 512) (d : Fin 1024) :
    (iblk m c 5 t : FVec Ideal S1x512x1024 .bf16) (ix3 0 f d) = argWd m c (ix3 e f d) := by
  show V m c main_call0_v3 (((cfg0.win 5).blk t).view.emb (ix3 0 f d)) = _
  rw [V_wd]
  refine congrArg (argWd m c) (funext fun a => Fin.ext ?_)
  show win0_5.index t a * S1x512x1024.size a + 1 * _ = _
  rw [(idx_w t).2.2]
  match a with
  | ⟨0, _⟩ => show t.val * 1 + 1 * 0 = e.val; omega
  | ⟨1, _⟩ => show 0 * 512 + 1 * f.val = f.val; omega
  | ⟨2, _⟩ => show 0 * 1024 + 1 * d.val = d.val; omega

/-- Expert `n`'s share of the result at one entry (nothing past the last expert). -/
def share (t : Fin 2048) (d : Fin 1024) (n : ℕ) : EReal :=
  if h : n < 8 then weight (argX m c) (argG m c) t ⟨n, h⟩ * expert (argX m c) (argWg m c) (argWu m c) (argWd m c) ⟨n, h⟩ t d else 0

/-- What a point adds, over any contents `o`, when the scratch holds the router weights. -/
theorem addend (s : Fin cfg0.N) (o : Tokens) (t : Fin 2048) (d : Fin 1024) :
    k0_pay8 (F := Ideal) (grid0.coords s) (iblk m c 1 s) (iblk m c 3 s) (iblk m c 4 s) (iblk m c 5 s) (scratch (argX m c) (argG m c)) o
      (ix2 t d) = o (ix2 t d) + share m c t d s.val := by
  have hs : s.val < 8 := lt_of_lt_of_eq s.isLt (show cfg0.N = 8 from N_0)
  rw [iblk1]
  refine (pay8_apply (grid0.coords s) (argX m c) (argWg m c) (argWu m c) (argWd m c) _ o _ _ _ ⟨s.val, hs⟩ (coords_val s)
    (iblk3 m c s ⟨s.val, hs⟩ rfl) (iblk4 m c s ⟨s.val, hs⟩ rfl) (iblk5 m c s ⟨s.val, hs⟩ rfl) t d).trans ?_
  rw [scratch_apply, share, dif_pos hs]

/-- After point `n` the scratch holds the router weights, and the result the sum of the shares so far. -/
theorem outsAt0_eq (n : ℕ) (hn : n < cfg0.N) :
    (outsAt0 m c n hn).2 = scratch (argX m c) (argG m c)
      ∧ ∀ t d, (outsAt0 m c n hn).1 (ix2 t d) = ∑ e ∈ Finset.range (n + 1), share m c t d e := by
  induction n with
  | zero =>
    have h := outsAt0_A m c ⟨0, hn⟩ (Nat.zero_mod 8)
    dsimp only at h
    rw [h, soutA_eq, outA_eq, iblk0, iblk2]
    refine ⟨rfl, fun t d => ?_⟩
    refine (addend m c ⟨0, hn⟩ _ t d).trans ?_
    rw [pay7_apply, zero_add, Finset.sum_range_one]
  | succ n ih =>
    obtain ⟨i2, i1⟩ := ih (Nat.lt_of_succ_lt hn)
    have hN : n + 1 < 8 := lt_of_lt_of_eq hn (show cfg0.N = 8 from N_0)
    have h := outsAt0_B m c ⟨n + 1, hn⟩ (by show ¬ (n + 1) % 8 = 0; omega)
    dsimp only at h
    rw [h, outB_eq]
    refine ⟨i2, fun t d => ?_⟩
    change (outsAt0 m c (n + 1 - 1) _).2 = _ at i2
    change ∀ t d, (outsAt0 m c (n + 1 - 1) _).1 (ix2 t d) = _ at i1
    rw [i2]
    refine (addend m c ⟨n + 1, hn⟩ _ t d).trans ?_
    rw [i1 t d, Finset.sum_range_succ _ (n + 1)]

/-- The kernel's result is the mixture. -/
theorem kernel_eq (t : Fin 2048) (d : Fin 1024) :
    (G6 m c : Tokens) (ix2 t d) = moe (argX m c) (argG m c) (argWg m c) (argWu m c) (argWd m c) t d := by
  have h7 : 7 < cfg0.N := lt_of_lt_of_eq (by decide) N_0.symm
  refine (congrFun ((G6_last m c).trans (congrArg Prod.fst (outsAt0_sweep m c 7 h7).symm)) (ix2 t d)).trans ?_
  refine ((outsAt0_eq m c 7 h7).2 t d).trans ((Finset.sum_range (share m c t d)).trans ?_)
  exact Finset.sum_congr rfl fun e _ => dif_pos e.isLt

end Cert.MoE

end
-- ==== Proof.RefSort.lean ====
/- The reference's top-2 read at an entry: the sorted row's first two positions, with the values found there. -/
module

public import proofs.«01_k».proof.Proof.Spec
public import proofs.«01_k».proof.Proof.Gen.ReferenceIdeal.Read
public import Idealize.ShloMosaic.Lib.Pointwise

@[expose] public section

noncomputable section

namespace Cert.MoE

open Idealize.ShloMosaic Cert.ReferenceIdeal Cert.ReferenceIdeal.Gen

/-- The place of rank `s` in the row `p`, greatest first and equal entries in index order. -/
def rank (p : Fin 8 → EReal) (s : Fin 2) : Fin 8 := sortedFrom (before p) (s.castLE (by decide))

/-- Replacing the second coordinate of a pair index. -/
theorem along_ix2 (t : Fin 2048) (j k : Fin 8) : Shape.Idx.along (s := S2048x8) (ix2 t j) 1 k = ix2 t k := by
  funext a
  match a with
  | ⟨0, _⟩ => rfl
  | ⟨1, _⟩ => rfl

/-- The host's strict comparison, as the row order of the specification. -/
theorem gt_eq (a b : EReal) : (FloatOps.cmpfTotal (F := Ideal) (φ := .f32) CmpDirection.gt a b == 1#1) = decide (b < a) := by
  show (BitVec.ofBool (decide (b < a)) == 1#1) = decide (b < a)
  cases decide (b < a) <;> rfl

/-- The top-2 operation at an entry: value and place of the entry of rank `s`. -/
theorem topK_apply (x : FVec Ideal S2048x8 .f32) (t : Fin 2048) (s : Fin 2) :
    (Host.topK S2048x2 1 (FloatOps.cmpfTotal (F := Ideal) (φ := .f32) CmpDirection.gt) x sliceFits_S2048x8_S2048x2).1 (ix2 t s)
        = x (ix2 t (rank (fun k => x (ix2 t k)) s))
      ∧ (Host.topK S2048x2 1 (FloatOps.cmpfTotal (F := Ideal) (φ := .f32) CmpDirection.gt) x sliceFits_S2048x8_S2048x2).2 (ix2 t s)
        = BitVec.ofNat 32 (rank (fun k => x (ix2 t k)) s).val := by
  have hJ : (fun a => ⟨0 + ((ix2 t s : S2048x2.Idx) (Fin.cast sliceFits_S2048x8_S2048x2.1.symm a)).val,
      Nat.lt_of_lt_of_le (Nat.add_lt_add_left (Fin.isLt _) _) (sliceFits_S2048x8_S2048x2.2 a)⟩ : S2048x8.Idx)
      = ix2 t (s.castLE (by decide)) := by
    funext a
    match a with
    | ⟨0, _⟩ => exact Fin.ext (Nat.zero_add _)
    | ⟨1, _⟩ => exact Fin.ext (Nat.zero_add _)
  have hd : 1 < S2048x8.rank := by decide
  have hs (J : S2048x8.Idx) (h : J = ix2 t (s.castLE (by decide))) :
      Shape.Idx.along J 1 (sortedFrom (fun k k' : Fin 8 => (FloatOps.cmpfTotal (F := Ideal) (φ := .f32) CmpDirection.gt
        (x (J.along 1 k)) (x (J.along 1 k')) == 1#1)) (J 1)) = ix2 t (rank (fun k => x (ix2 t k)) s) := by
    subst h
    refine (along_ix2 t _ _).trans (congrArg (ix2 t) ?_)
    refine congrArg (fun R : Fin 8 → Fin 8 → Bool => sortedFrom R (s.castLE (by decide))) (funext fun k => funext fun k' => ?_)
    exact (congrArg₂ (fun a b => FloatOps.cmpfTotal (F := Ideal) (φ := .f32) CmpDirection.gt (x a) (x b) == 1#1)
      (along_ix2 t _ k) (along_ix2 t _ k')).trans (gt_eq _ _)
  have h := hs _ hJ
  constructor
  · simp only [Host.topK, Host.sort2, dif_pos hd, extractStridedSlice]
    exact congrArg x h
  · simp only [Host.topK, Host.sort2, dif_pos hd, extractStridedSlice]
    exact congrArg (fun J : S2048x8.Idx => BitVec.ofNat 32 (J 1).val) h

end Cert.MoE

end
-- ==== Proof.RefValue.lean ====
/- The reference read entry by entry: its softmax rows, the weights it scatters, and its result. -/
module

public import proofs.«01_k».proof.Proof.Spec
public import proofs.«01_k».proof.Proof.KernelBlock
public import proofs.«01_k».proof.Proof.Gen.ReferenceIdeal.Read
public import proofs.«01_k».proof.Proof.RefSort
public import Idealize.ShloMosaic.Lib.Pointwise
public import Idealize.ShloMosaic.Lib.ScatterToDense.RefScatter
public import Idealize.ShloMosaic.Lib.Routing.OpsPair

@[expose] public section

noncomputable section

namespace Cert.MoE

open Idealize.ShloMosaic Cert.ReferenceIdeal Cert.ReferenceIdeal.Gen Cert.ReferenceIdeal.Read

/-- The reference's softmax row. -/
theorem v11_apply (x : Tokens) (g : Gate) (t : Fin 2048) (j : Fin 8) :
    val_main_v11 (F := Ideal) x g (ix2 t j) = prob x g t j := by
  pointwise [val_main_v11, val_main_v10, val_main_v9, val_main_v8, val_main_v7, val_main_v6, val_main_v5, val_main_v4, val_main_v3,
    val_main_v2, val_main_v1, val_main_v0, val_main_cst, val_main_cst_0, val_main_cst_1]
  rw [negInf]
  rfl

/-- The values the reference's top-2 returns. -/
theorem values_apply (x : Tokens) (g : Gate) (t : Fin 2048) (s : Fin 2) :
    val_main_values (F := Ideal) x g (ix2 t s) = prob x g t (rank (prob x g t) s) := by
  have h := (topK_apply (val_main_v11 (F := Ideal) x g) t s).1
  rw [show (fun k => val_main_v11 (F := Ideal) x g (ix2 t k)) = prob x g t from funext fun k => v11_apply x g t k, v11_apply] at h
  exact h

/-- The places the reference's top-2 returns. -/
theorem indices_apply (x : Tokens) (g : Gate) (t : Fin 2048) (s : Fin 2) :
    val_main_indices (F := Ideal) x g (ix2 t s) = BitVec.ofNat 32 (rank (prob x g t) s).val := by
  have h := (topK_apply (val_main_v11 (F := Ideal) x g) t s).2
  rw [show (fun k => val_main_v11 (F := Ideal) x g (ix2 t k)) = prob x g t from funext fun k => v11_apply x g t k] at h
  exact h

/-- The normalized weight of rank `s`. -/
def share2 (p : Fin 8 → EReal) (s : Fin 2) : EReal :=
  Ideal.div (p (rank p s)) (p (rank p 0) + p (rank p 1) + Ideal.ofBits .f32 0x1E3CE508#32)

/-- The reference's normalized top-2 weights. -/
theorem v17_apply (x : Tokens) (g : Gate) (t : Fin 2048) (s : Fin 2) :
    val_main_v17 (F := Ideal) x g (ix2 t s) = share2 (prob x g t) s := by
  pointwise [val_main_v17, val_main_v16, val_main_v15, val_main_v14, val_main_v13, val_main_v12, val_main_cst_2, val_main_cst_3]
  simp only [values_apply, Fin.sum_univ_two]
  rfl

/-- The scatter's row words: the token itself. -/
theorem v32_apply (t : Fin 2048) (s : Fin 2) : val_main_v32 (F := Ideal) (ix3 t s 0) = BitVec.ofNat 32 t.val := by
  pointwise [val_main_v32, val_main_v31, val_main_v25, val_main_v24, val_main_v23, val_main_v22, val_main_v21, val_main_v20,
    val_main_v19, val_main_c, val_main_c_5]
  exact Routing.wrap_of_lt _ _ (by rw [BitVec.toNat_ofNat]; have := t.isLt; omega)

/-- The scatter's column words: the place of rank `s`. -/
theorem v33_apply (x : Tokens) (g : Gate) (t : Fin 2048) (s : Fin 2) :
    val_main_v33 (F := Ideal) x g (ix3 t s 0) = BitVec.ofNat 32 (rank (prob x g t) s).val := by
  pointwise [val_main_v33, val_main_v30, val_main_v29, val_main_v28, val_main_v27, val_main_v26, val_main_c_6, val_main_c_7]
  rw [indices_apply]
  exact Routing.wrap_of_lt _ _ (by rw [BitVec.toNat_ofNat]; have := (rank (prob x g t) s).isLt; omega)

/-- The first of the scatter's two index words. -/
theorem v34_row (x : Tokens) (g : Gate) (t : Fin 2048) (s : Fin 2) :
    val_main_v34 (F := Ideal) x g (ix3 t s 0) = BitVec.ofNat 32 t.val := by
  pointwise [val_main_v34]
  exact v32_apply t s

/-- The second of the scatter's two index words. -/
theorem v34_col (x : Tokens) (g : Gate) (t : Fin 2048) (s : Fin 2) :
    val_main_v34 (F := Ideal) x g (ix3 t s 1) = BitVec.ofNat 32 (rank (prob x g t) s).val := by
  pointwise [val_main_v34]
  exact v33_apply x g t s

/-- The scatter starts from zeros. -/
theorem v18_apply (t : Fin 2048) (j : Fin 8) : val_main_v18 (F := Ideal) (ix2 t j) = 0 := by
  pointwise [val_main_v18, val_main_cst_4]

/-- The scattered weights are the specification's. -/
theorem v35_apply (x : Tokens) (g : Gate) (t : Fin 2048) (j : Fin 8) :
    val_main_v35 (F := Ideal) x g (ix2 t j) = weight x g t j := by
  have h := ScatterToDense.scatter_eq_GS scatter_S2048x8_S2048x2x2_S2048x2_n_01_01_2 rfl rfl rfl (by decide) (by decide)
    (val_main_v18 (F := Ideal)) (val_main_v34 (F := Ideal) x g) (val_main_v17 (F := Ideal) x g)
    (fun t k => BitVec.ofNat 32 (rank (prob x g t) (Fin.ofNat 2 k)).val) (fun t k => share2 (prob x g t) (Fin.ofNat 2 k))
    (fun i k => by rw [← ix3_eq_valueIdx]; exact v34_row x g i k)
    (fun i k => by rw [← ix3_eq_valueIdx, Fin.ofNat_val_eq_self]; exact v34_col x g i k)
    (fun i k => by rw [← ix2_eq_valueIdx, Fin.ofNat_val_eq_self]; exact v17_apply x g i k) t j
  rw [← ix2_eq_valueIdx, ScatterToDense.GS_succ, ScatterToDense.GS_succ, ScatterToDense.GS_zero] at h
  refine (show val_main_v35 (F := Ideal) x g (ix2 t j) = _ from h).trans ?_
  have hw (s : Fin 2) : (j.val = (BitVec.ofNat 32 (rank (prob x g t) s).val).toNat) = (j = rank (prob x g t) s) := by
    rw [BitVec.toNat_ofNat, Nat.mod_eq_of_lt (by have := (rank (prob x g t) s).isLt; omega)]
    exact propext Fin.ext_iff.symm
  simp only [hw]
  rw [v18_apply]
  rfl

/-- The reference's result is the mixture. -/
theorem v43_apply (x : Tokens) (g : Gate) (wg wu : WIn) (wd : WOut) (t : Fin 2048) (d : Fin 1024) :
    val_main_v43 (F := Ideal) x g wg wu wd (ix2 t d) = moe x g wg wu wd t d := by
  pointwise [val_main_v43, val_main_v42, val_main_v41, val_main_v40, val_main_call0_v5, val_main_call0_v4, val_main_call0_v3,
    val_main_call0_v2, val_main_call0_v1, val_main_call0_v0, val_main_call0_cst, val_main_call0_cst_0, val_main_v39, val_main_v38,
    val_main_v37, val_main_v36]
  simp only [v35_apply, mul_comm (wg _) (x _), mul_comm (wu _) (x _)]
  rfl

end Cert.MoE

end
-- ==== Proof.Equation.lean ====
/- The value equation: from equal arguments the reference's result and the kernel's are one array. -/
module

public import proofs.«01_k».proof.Proof.KernelGrid
public import proofs.«01_k».proof.Proof.RefValue

@[expose] public section

noncomputable section

namespace Cert.MoE

open Idealize.ShloMosaic Idealize.ShloMosaic.TcCoe Idealize.SL.Sem

/-- The kernel's result is the reference's value at the kernel's arguments, entry by entry the mixture. -/
theorem value_eq (m : (ℓ : Loc Cert.KernelIdeal.nD Cert.KernelIdeal.τ Cert.KernelIdeal.sig) → Buf (Elt Ideal) ℓ)
    (c : Dev Cert.KernelIdeal.nD) :
    Cert.ReferenceIdeal.Read.val_main_v43 (F := Ideal) (argX m c) (argG m c) (argWg m c) (argWu m c) (argWd m c)
      = (Cert.KernelIdeal.Value.G6 m c : Tokens) := by
  funext i
  rw [show i = ix2 (i 0) (i 1) from eq_ix2 i]
  exact (v43_apply _ _ _ _ _ _ _).trans (kernel_eq m c _ _).symm

end Cert.MoE

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments as launched; it has no semaphores. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4⟩ := hagree c
  rw [(h c).1, Cert.ReferenceIdeal.Read.val_main_v43_eq, h0, h1, h2, h3, h4]
  exact Cert.MoE.value_eq m c

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
